-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S10000x256 : S_.BroadcastsInDim S10000x256 (![] : Fin 0 → Fin S10000x256.rank)
  bcast_S_S256x256 : S_.BroadcastsInDim S256x256 (![] : Fin 0 → Fin S256x256.rank)
  bcast_S_S256 : S_.BroadcastsInDim S256 (![] : Fin 0 → Fin S256.rank)

variable [Facts]

def fn_part1 {F : FTy → Type} [FloatOps F] (main_arg9 : FVec F S256 .f32) (main_v2 : IVec S10000x256 1) (main_v5 : IVec S256x256 1) (main_v8 : IVec S256 1) (main_v11 : IVec S256 1) (main_v13 : IVec S256 1) (main_v16 : IVec S256x256 1) (main_v17 : FVec F S256 .f32) : IVec S10000x256 1 × IVec S256x256 1 × IVec S256 1 × IVec S256 1 × IVec S256 1 × IVec S256x256 1 × IVec S256 1 × IVec S256 1 :=
  let main_cst_5 : FVec F S_ .f32 := constant S_ .f32 0x7F800000#32
  let main_v18 : FVec F S256 .f32 := broadcastInDim S256 ![] bcast_S_S256 main_cst_5
  let main_v19 : IVec S256 1 := cmpf .olt main_v17 main_v18
  let main_v20 : FVec F S256 .f32 := Host.absf main_arg9
  let main_cst_6 : FVec F S_ .f32 := constant S_ .f32 0x7F800000#32
  let main_v21 : FVec F S256 .f32 := broadcastInDim S256 ![] bcast_S_S256 main_cst_6
  let main_v22 : IVec S256 1 := cmpf .olt main_v20 main_v21
  (main_v2, main_v5, main_v8, main_v11, main_v13, main_v16, main_v19, main_v22)

def fn {F : FTy → Type} [FloatOps F] (main_arg0 : FVec F S10000x256 .f32) (main_arg1 : IVec S2x160000 32) (main_arg2 : IVec S10000 32) (main_arg3 : FVec F S256x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256x10 .f32) (main_arg14 : FVec F S10 .f32) : IVec S10000x256 1 × IVec S256x256 1 × IVec S256 1 × IVec S256 1 × IVec S256 1 × IVec S256x256 1 × IVec S256 1 × IVec S256 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_v3 : FVec F S256x256 .f32 := Host.absf main_arg3
  let main_cst_0 : FVec F S_ .f32 := constant S_ .f32 0x7F800000#32
  let main_v4 : FVec F S256x256 .f32 := broadcastInDim S256x256 ![] bcast_S_S256x256 main_cst_0
  let main_v5 : IVec S256x256 1 := cmpf .olt main_v3 main_v4
  let main_v6 : FVec F S256 .f32 := Host.absf main_arg4
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_cst_3 : FVec F S_ .f32 := constant S_ .f32 0x7F800000#32
  let main_v12 : FVec F S256 .f32 := broadcastInDim S256 ![] bcast_S_S256 main_cst_3
  let main_v13 : IVec S256 1 := cmpf .olt main_arg6 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  let main_v17 : FVec F S256 .f32 := Host.absf main_arg8
  fn_part1 (F := F) main_arg9 main_v2 main_v5 main_v8 main_v11 main_v13 main_v16 main_v17
-- ==== Kernel.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x256 : Shape := ⟨2, ![1, 256]⟩
abbrev S10x256 : Shape := ⟨2, ![10, 256]⟩
abbrev S1x10 : Shape := ⟨2, ![1, 10]⟩
abbrev S10x64 : Shape := ⟨2, ![10, 64]⟩
abbrev S64x10 : Shape := ⟨2, ![64, 10]⟩
abbrev S5 : Shape := ⟨1, ![5]⟩
abbrev S1 : Shape := ⟨1, ![1]⟩
abbrev S_ : Shape := ⟨0, ![]⟩
abbrev S2000x256 : Shape := ⟨2, ![2000, 256]⟩
abbrev S1x10000 : Shape := ⟨2, ![1, 10000]⟩
abbrev S64x10000 : Shape := ⟨2, ![64, 10000]⟩
abbrev S64 : Shape := ⟨1, ![64]⟩
abbrev S64x1 : Shape := ⟨2, ![64, 1]⟩
abbrev S2000x8 : Shape := ⟨2, ![2000, 8]⟩
abbrev S8x256 : Shape := ⟨2, ![8, 256]⟩
abbrev S10000x8 : Shape := ⟨2, ![10000, 8]⟩
abbrev S64x256 : Shape := ⟨2, ![64, 256]⟩

abbrev nBuf : Space → Nat
  | .hbm => 24
  | .vmem => 13
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x10, .f32⟩
  | .hbm, ⟨14, _⟩ => ⟨S10, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S10x256, .f32⟩
  | .hbm, ⟨21, _⟩ => ⟨S1x10, .f32⟩
  | .hbm, ⟨22, _⟩ => ⟨S10x64, .f32⟩
  | .hbm, ⟨23, _⟩ => ⟨S64x10, .f32⟩
  | .local _ .vmem, ⟨0, _⟩ => ⟨S10000, .i32⟩
  | .local _ .vmem, ⟨1, _⟩ => ⟨S256x256, .f32⟩
  | .local _ .vmem, ⟨2, _⟩ => ⟨S1x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S10x256, .f32⟩
  | .local _ .vmem, ⟨10, _⟩ => ⟨S1x10, .f32⟩
  | .local _ .vmem, ⟨11, _⟩ => ⟨S10x64, .f32⟩
  | .local _ .vmem, ⟨12, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_v0 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S10000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S10x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x256 : Shape := ⟨2, ![1, 256]⟩
abbrev S_ : Shape := ⟨0, ![]⟩
abbrev S64x256 : Shape := ⟨2, ![64, 256]⟩
abbrev S10000x1 : Shape := ⟨2, ![10000, 1]⟩
abbrev S64x1 : Shape := ⟨2, ![64, 1]⟩
abbrev S64x10 : Shape := ⟨2, ![64, 10]⟩
abbrev S1x10 : Shape := ⟨2, ![1, 10]⟩
abbrev S64 : Shape := ⟨1, ![64]⟩

abbrev nBuf : Space → Nat
  | .hbm => 130
  | .vmem => 0
  | .smem => 0
  | _ => 0

abbrev hbmTy0_0 (i : Nat) : BufTy := match i % 128 with
  | 0 => ⟨S10000x256, .f32⟩
  | 1 => ⟨S2x160000, .i32⟩
  | 2 => ⟨S10000, .i32⟩
  | 3 => ⟨S256x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256x10, .f32⟩
  | 14 => ⟨S10, .f32⟩
  | 15 => ⟨S10000x256, .f32⟩
  | 16 => ⟨S1x256, .f32⟩
  | 17 => ⟨S10000x256, .f32⟩
  | 18 => ⟨S10000x256, .f32⟩
  | 19 => ⟨S_, .f32⟩
  | 20 => ⟨S256, .f32⟩
  | 21 => ⟨S_, .f32⟩
  | 22 => ⟨S256, .f32⟩
  | 23 => ⟨S256, .f32⟩
  | 24 => ⟨S1x256, .f32⟩
  | 25 => ⟨S10000x256, .f32⟩
  | 26 => ⟨S10000x256, .f32⟩
  | 27 => ⟨S10000x256, .f32⟩
  | 28 => ⟨S_, .f32⟩
  | 29 => ⟨S256, .f32⟩
  | 30 => ⟨S_, .f32⟩
  | 31 => ⟨S256, .f32⟩
  | 32 => ⟨S256, .f32⟩
  | 33 => ⟨S1x256, .f32⟩
  | 34 => ⟨S10000x256, .f32⟩
  | 35 => ⟨S10000x256, .f32⟩
  | 36 => ⟨S_, .f32⟩
  | 37 => ⟨S256, .f32⟩
  | 38 => ⟨S256, .f32⟩
  | 39 => ⟨S256, .f32⟩
  | 40 => ⟨S1x256, .f32⟩
  | 41 => ⟨S10000x256, .f32⟩
  | 42 => ⟨S10000x256, .f32⟩
  | 43 => ⟨S1x256, .f32⟩
  | 44 => ⟨S10000x256, .f32⟩
  | 45 => ⟨S10000x256, .f32⟩
  | 46 => ⟨S1x256, .f32⟩
  | 47 => ⟨S10000x256, .f32⟩
  | 48 => ⟨S10000x256, .f32⟩
  | 49 => ⟨S_, .f32⟩
  | 50 => ⟨S10000x256, .f32⟩
  | 51 => ⟨S10000x256, .f32⟩
  | 52 => ⟨S10000x256, .f32⟩
  | 53 => ⟨S1x256, .f32⟩
  | 54 => ⟨S10000x256, .f32⟩
  | 55 => ⟨S10000x256, .f32⟩
  | 56 => ⟨S_, .f32⟩
  | 57 => ⟨S256, .f32⟩
  | 58 => ⟨S_, .f32⟩
  | 59 => ⟨S256, .f32⟩
  | 60 => ⟨S256, .f32⟩
  | 61 => ⟨S1x256, .f32⟩
  | 62 => ⟨S10000x256, .f32⟩
  | 63 => ⟨S10000x256, .f32⟩
  | 64 => ⟨S10000x256, .f32⟩
  | 65 => ⟨S_, .f32⟩
  | 66 => ⟨S256, .f32⟩
  | 67 => ⟨S_, .f32⟩
  | 68 => ⟨S256, .f32⟩
  | 69 => ⟨S256, .f32⟩
  | 70 => ⟨S1x256, .f32⟩
  | 71 => ⟨S10000x256, .f32⟩
  | 72 => ⟨S10000x256, .f32⟩
  | 73 => ⟨S_, .f32⟩
  | 74 => ⟨S256, .f32⟩
  | 75 => ⟨S256, .f32⟩
  | 76 => ⟨S256, .f32⟩
  | 77 => ⟨S1x256, .f32⟩
  | 78 => ⟨S10000x256, .f32⟩
  | 79 => ⟨S10000x256, .f32⟩
  | 80 => ⟨S1x256, .f32⟩
  | 81 => ⟨S10000x256, .f32⟩
  | 82 => ⟨S10000x256, .f32⟩
  | 83 => ⟨S1x256, .f32⟩
  | 84 => ⟨S10000x256, .f32⟩
  | 85 => ⟨S10000x256, .f32⟩
  | 86 => ⟨S_, .f32⟩
  | 87 => ⟨S10000x256, .f32⟩
  | 88 => ⟨S10000x256, .f32⟩
  | 89 => ⟨S_, .f32⟩
  | 90 => ⟨S64x256, .f32⟩
  | 91 => ⟨S10000x1, .i32⟩
  | 92 => ⟨S64x256, .f32⟩
  | 93 => ⟨S_, .f32⟩
  | 94 => ⟨S10000x1, .f32⟩
  | 95 => ⟨S_, .f32⟩
  | 96 => ⟨S64x1, .f32⟩
  | 97 => ⟨S10000x1, .i32⟩
  | 98 => ⟨S64x1, .f32⟩
  | 99 => ⟨S_, .f32⟩
  | 100 => ⟨S64x1, .f32⟩
  | 101 => ⟨S64x1, .f32⟩
  | 102 => ⟨S64x256, .f32⟩
  | 103 => ⟨S64x256, .f32⟩
  | 104 => ⟨S64x256, .f32⟩
  | 105 => ⟨S1x256, .f32⟩
  | 106 => ⟨S64x256, .f32⟩
  | 107 => ⟨S64x256, .f32⟩
  | 108 => ⟨S_, .f32⟩
  | 109 => ⟨S64x256, .f32⟩
  | 110 => ⟨S64x256, .f32⟩
  | 111 => ⟨S64x10, .f32⟩
  | 112 => ⟨S1x10, .f32⟩
  | 113 => ⟨S64x10, .f32⟩
  | 114 => ⟨S64x10, .f32⟩
  | 115 => ⟨S_, .f32⟩
  | 116 => ⟨S64, .f32⟩
  | 117 => ⟨S_, .f32⟩
  | 118 => ⟨S64, .f32⟩
  | 119 => ⟨S64, .f32⟩
  | 120 => ⟨S64x1, .f32⟩
  | 121 => ⟨S64x10, .f32⟩
  | 122 => ⟨S64x10, .f32⟩
  | 123 => ⟨S64x10, .f32⟩
  | 124 => ⟨S_, .f32⟩
  | 125 => ⟨S64, .f32⟩
  | 126 => ⟨S64x1, .f32⟩
  | 127 => ⟨S64x1, .f32⟩
  | _ => ⟨S10000x256, .f32⟩

abbrev hbmTy0_1 (i : Nat) : BufTy := match i % 128 with
  | 0 => ⟨S64x10, .f32⟩
  | 1 => ⟨S64x10, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call2_cst : Ref sig .tc := ⟨.hbm, 108, rfl⟩
abbrev main_call2_v0 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call3_cst : Ref sig .tc := ⟨.hbm, 115, rfl⟩
abbrev main_call3_v0 : Ref sig .tc := ⟨.hbm, 116, rfl⟩
abbrev main_call3_cst_0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_v6 : Ref sig .tc := ⟨.hbm, 123, rfl⟩
abbrev main_call3_cst_1 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_v80 : Ref sig .tc := ⟨.hbm, 129, rfl⟩

abbrev nD : Nat := 1
abbrev τ : Topo := Topo.v7x

variable {F : FTy → Type} [FloatOps F]
-- ==== Proof.Term.lean ====
/- What the kernel's one grid point writes, as a plain function of the arrays, and the whole run's result as that function's
   transpose. -/
module

public import proofs.«01_k».proof.Proof.Gen.KernelIdeal.Frame
public import proofs.«01_k».proof.Proof.Gen.KernelIdeal.Points
public import Idealize.ShloMosaic.Lib.Pipeline.Value
public import Idealize.ShloMosaic.Lib.Pipeline.ReadBack
public import Idealize.ShloMosaic.Lib.StableHlo.Run
public import Idealize.ShloMosaic.Lib.Tactic

@[expose] public section

set_option maxRecDepth 16384

noncomputable section

namespace Cert.KernelIdeal.Term

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- The 2000 rows of `X` that start at row `o 0`. -/
def rows (X : Vec F S10000x256 .f32) (o : Fin 2 → ℕ) (inb : ∀ a, o a + S2000x256.size a ≤ S10000x256.size a) : Vec F S2000x256 .f32 :=
  fun j => X ((Rect.unit (s := S10000x256) o S2000x256.size inb).idx j)

/-- The five blocks of rows that the kernel copies in. -/
def blk0 (X : Vec F S10000x256 .f32) : Vec F S2000x256 .f32 := rows X ![0, 0] inb_S10000x256_S2000x256_0_0
def blk1 (X : Vec F S10000x256 .f32) : Vec F S2000x256 .f32 := rows X ![2000, 0] inb_S10000x256_S2000x256_2000_0
def blk2 (X : Vec F S10000x256 .f32) : Vec F S2000x256 .f32 := rows X ![4000, 0] inb_S10000x256_S2000x256_4000_0
def blk3 (X : Vec F S10000x256 .f32) : Vec F S2000x256 .f32 := rows X ![6000, 0] inb_S10000x256_S2000x256_6000_0
def blk4 (X : Vec F S10000x256 .f32) : Vec F S2000x256 .f32 := rows X ![8000, 0] inb_S10000x256_S2000x256_8000_0

/-- The first layer after normalization and cut-off, of the whole input. -/
def layer1 (X : Vec F S10000x256 .f32) (W : Vec F S256x256 .f32) (g b : Vec F S1x256 .f32) : FVec F S10000x256 .bf16 :=
  k0_pay15 (k0_pay5 W) k0_pay6 (k0_pay7 W (blk0 X)) (k0_pay8 W (blk1 X)) (k0_pay11 (k0_pay5 W) (blk2 X)) (k0_pay12 (k0_pay5 W) (blk3 X))
    (k0_pay13 (k0_pay5 W) k0_pay6 (k0_pay9 W (blk0 X) (blk1 X)) (blk2 X) (blk3 X))
    (k0_pay14 (k0_pay10 (blk0 X) (blk1 X)) (blk2 X) (blk3 X)) (blk4 X) W g b

/-- The pooled second layer, one row per group. -/
def pooled (B : Vec F S10000 .i32) (H : FVec F S10000x256 .bf16) (W : Vec F S256x256 .f32) (g b : Vec F S1x256 .f32) : FVec F S64x256 .f32 :=
  k0_pay17 (k0_pay2 B) (k0_pay4 (k0_pay3 B)) H (k0_pay16 W) (constant S10000x256 FTy.f32 0#32) W g b

/-- What the kernel stores, as a function of what it reads. -/
def out (B : Vec F S10000 .i32) (W1 : Vec F S256x256 .f32) (g1 b1 : Vec F S1x256 .f32) (W2 : Vec F S256x256 .f32) (g2 b2 : Vec F S1x256 .f32)
    (Wf : Vec F S256x256 .f32) (bf : Vec F S1x256 .f32) (Wl : Vec F S10x256 .f32) (bl : Vec F S1x10 .f32) (X : Vec F S10000x256 .f32) : Vec F S10x64 .f32 :=
  k0_pay1 (pooled B (layer1 X W1 g1 b1) W2 g2 b2) Wf (constant S64x256 FTy.f32 0#32) bf Wl bl

variable (m : (ℓ : Loc nD τ sig) → Buf (Elt F) ℓ)

/-- Reading the rows from `o 0` on of the input buffer reads those rows of its contents. -/
theorem read_rows (X : Vec F S10000x256 .f32) (o : Fin 2 → ℕ) (inb : ∀ a, o a + S2000x256.size a ≤ S10000x256.size a) :
    View.read (Elt F) ((View.whole main_arg0).slice (Rect.unit o ![2000, 256] inb)) X = rows X o inb := by
  funext j; rfl

/-- The grid point leaves `out` of its input blocks and of the input that it copies itself. -/
theorem outsAt0_eq (c : Dev nD) (t : Fin cfg0.N) : outsAt0 m c t = out (iblk m c 0 t) (iblk m c 1 t) (iblk m c 2 t) (iblk m c 3 t)
    (iblk m c 4 t) (iblk m c 5 t) (iblk m c 6 t) (iblk m c 7 t) (iblk m c 8 t) (iblk m c 9 t) (iblk m c 10 t) (V m c main_arg0) := by
  have hz : (![0, 0] : Fin 2 → ℕ) = fun _ => 0 := by decide
  have hz1 : (![0] : Fin 1 → ℕ) = fun _ => 0 := by decide
  unfold outsAt0 out0_A_11
  rw [View.read_writes_eq_canon _ _ _ (cover0_A_11 c _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S10x64) hz]
  simp (disch := decide) only [↓View.readCov_cons_toLoadRect, ↓View.readCov_skip]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread,
    View.ld_unit_zero (S := S256x256) hz, View.ld_unit_zero (S := S1x256) hz, View.ld_unit_zero (S := S10x256) hz, View.ld_unit_zero (S := S1x10) hz,
    View.ld_unit_zero (S := S10000) hz1, ReadAs.apply_same, read_rows]
  rfl

/-! Each window is its whole array. -/

theorem iblk0 (c : Dev nD) (t : Fin cfg0.N) : iblk m c 0 t = V m c main_arg2 :=
  Memref.read_access_unit_zero (Elt F) main_arg2 (funext fun a => Nat.zero_mul _) (fun a => by rw [Nat.zero_mul]; simp) (V m c main_arg2)
theorem iblk1 (c : Dev nD) (t : Fin cfg0.N) : iblk m c 1 t = V m c main_arg3 :=
  Memref.read_access_unit_zero (Elt F) main_arg3 (funext fun a => Nat.zero_mul _) (fun a => by rw [Nat.zero_mul]; simp) (V m c main_arg3)
theorem iblk2 (c : Dev nD) (t : Fin cfg0.N) : iblk m c 2 t = V m c main_call0_v0 :=
  Memref.read_access_unit_zero (Elt F) main_call0_v0 (funext fun a => Nat.zero_mul _) (fun a => by rw [Nat.zero_mul]; simp) (V m c main_call0_v0)
theorem iblk3 (c : Dev nD) (t : Fin cfg0.N) : iblk m c 3 t = V m c main_call0_v1 :=
  Memref.read_access_unit_zero (Elt F) main_call0_v1 (funext fun a => Nat.zero_mul _) (fun a => by rw [Nat.zero_mul]; simp) (V m c main_call0_v1)
theorem iblk4 (c : Dev nD) (t : Fin cfg0.N) : iblk m c 4 t = V m c main_arg7 :=
  Memref.read_access_unit_zero (Elt F) main_arg7 (funext fun a => Nat.zero_mul _) (fun a => by rw [Nat.zero_mul]; simp) (V m c main_arg7)
theorem iblk5 (c : Dev nD) (t : Fin cfg0.N) : iblk m c 5 t = V m c main_call0_v2 :=
  Memref.read_access_unit_zero (Elt F) main_call0_v2 (funext fun a => Nat.zero_mul _) (fun a => by rw [Nat.zero_mul]; simp) (V m c main_call0_v2)
theorem iblk6 (c : Dev nD) (t : Fin cfg0.N) : iblk m c 6 t = V m c main_call0_v3 :=
  Memref.read_access_unit_zero (Elt F) main_call0_v3 (funext fun a => Nat.zero_mul _) (fun a => by rw [Nat.zero_mul]; simp) (V m c main_call0_v3)
theorem iblk7 (c : Dev nD) (t : Fin cfg0.N) : iblk m c 7 t = V m c main_arg11 :=
  Memref.read_access_unit_zero (Elt F) main_arg11 (funext fun a => Nat.zero_mul _) (fun a => by rw [Nat.zero_mul]; simp) (V m c main_arg11)
theorem iblk8 (c : Dev nD) (t : Fin cfg0.N) : iblk m c 8 t = V m c main_call0_v4 :=
  Memref.read_access_unit_zero (Elt F) main_call0_v4 (funext fun a => Nat.zero_mul _) (fun a => by rw [Nat.zero_mul]; simp) (V m c main_call0_v4)
theorem iblk9 (c : Dev nD) (t : Fin cfg0.N) : iblk m c 9 t = V m c main_call0_v5 :=
  Memref.read_access_unit_zero (Elt F) main_call0_v5 (funext fun a => Nat.zero_mul _) (fun a => by rw [Nat.zero_mul]; simp) (V m c main_call0_v5)
theorem iblk10 (c : Dev nD) (t : Fin cfg0.N) : iblk m c 10 t = V m c main_call0_v6 :=
  Memref.read_access_unit_zero (Elt F) main_call0_v6 (funext fun a => Nat.zero_mul _) (fun a => by rw [Nat.zero_mul]; simp) (V m c main_call0_v6)

/-- Which the run writes back whole. -/
theorem final (c : Dev nD) : (dats m 0 c).arrAt 11 cfg0.N = outsAt0 m c t0_0 := by
  refine (dats m 0 c).arrAt_eq_of_cover 11 (outsAt0 m c t0_0) (fun t _ => ?_) (fun i => ⟨t0_0, flush0_11 t0_0, ?_⟩)
  · obtain rfl := fin_N0 t
    show (cfg0.win 11).cut (grid0.coords t0_0) ((dats m 0 c).after 11 t0_0) = _
    rw [after0_11]
    exact (Memref.read_access_unit_zero (Elt F) main_call0_v7 (funext fun a => Nat.zero_mul _) (fun a => by rw [Nat.zero_mul]; simp) (outsAt0 m c t0_0)).symm
  · show i ∈ ((View.whole main_call0_v7).slice (win0_11.rect t0_0)).set
    rw [View.set_slice_whole]
    exact View.mem_set_unit_zero (S := S10x64) (funext fun a => Nat.zero_mul _) _ i

/-! What the host lines before the region leave. -/

theorem V_v0 (c : Dev nD) : V m c main_call0_v0 = shapeCast S1x256 (m ((c : Thread nD τ).loc main_arg5) : Vec F S256 .f32) shapeCasts_S256_S1x256 := by
  show StableHlo.after hostOps0 _ (Proc.devRef .tc main_call0_v0) = _
  after_results
  rfl
theorem V_v1 (c : Dev nD) : V m c main_call0_v1 = shapeCast S1x256 (m ((c : Thread nD τ).loc main_arg6) : Vec F S256 .f32) shapeCasts_S256_S1x256 := by
  show StableHlo.after hostOps0 _ (Proc.devRef .tc main_call0_v1) = _
  after_results
  rfl
theorem V_v2 (c : Dev nD) : V m c main_call0_v2 = shapeCast S1x256 (m ((c : Thread nD τ).loc main_arg9) : Vec F S256 .f32) shapeCasts_S256_S1x256 := by
  show StableHlo.after hostOps0 _ (Proc.devRef .tc main_call0_v2) = _
  after_results
  rfl
theorem V_v3 (c : Dev nD) : V m c main_call0_v3 = shapeCast S1x256 (m ((c : Thread nD τ).loc main_arg10) : Vec F S256 .f32) shapeCasts_S256_S1x256 := by
  show StableHlo.after hostOps0 _ (Proc.devRef .tc main_call0_v3) = _
  after_results
  rfl
theorem V_v4 (c : Dev nD) : V m c main_call0_v4 = shapeCast S1x256 (m ((c : Thread nD τ).loc main_arg12) : Vec F S256 .f32) shapeCasts_S256_S1x256 := by
  show StableHlo.after hostOps0 _ (Proc.devRef .tc main_call0_v4) = _
  after_results
  rfl
theorem V_v5 (c : Dev nD) : V m c main_call0_v5 = transpose S10x256 [1, 0] (m ((c : Thread nD τ).loc main_arg13) : Vec F S256x10 .f32) transposes_S256x10_S10x256_1_0 := by
  show StableHlo.after hostOps0 _ (Proc.devRef .tc main_call0_v5) = _
  after_results
  rfl
theorem V_v6 (c : Dev nD) : V m c main_call0_v6 = shapeCast S1x10 (m ((c : Thread nD τ).loc main_arg14) : Vec F S10 .f32) shapeCasts_S10_S1x10 := by
  show StableHlo.after hostOps0 _ (Proc.devRef .tc main_call0_v6) = _
  after_results
  rfl

/-- The result of @main, as a function of the arguments: the transpose of what the kernel stores. -/
def result (X : Vec F S10000x256 .f32) (B : Vec F S10000 .i32) (W1 : Vec F S256x256 .f32) (g1 b1 : Vec F S256 .f32) (W2 : Vec F S256x256 .f32)
    (g2 b2 : Vec F S256 .f32) (Wf : Vec F S256x256 .f32) (bf : Vec F S256 .f32) (Wl : Vec F S256x10 .f32) (bl : Vec F S10 .f32) : Vec F S64x10 .f32 :=
  transpose S64x10 [1, 0] (out B W1 (shapeCast S1x256 g1 shapeCasts_S256_S1x256) (shapeCast S1x256 b1 shapeCasts_S256_S1x256) W2
    (shapeCast S1x256 g2 shapeCasts_S256_S1x256) (shapeCast S1x256 b2 shapeCasts_S256_S1x256) Wf (shapeCast S1x256 bf shapeCasts_S256_S1x256)
    (transpose S10x256 [1, 0] Wl transposes_S256x10_S10x256_1_0) (shapeCast S1x10 bl shapeCasts_S10_S1x10) X) transposes_S10x64_S64x10_1_0

/-- What the host line after the region leaves in the result buffer. -/
theorem tail (c : Dev nD) : Pipeline.afterTail₀ cfgs (dats m) 0 (V0 m) [hostOps1] c main_v0
    = result (m ((c : Thread nD τ).loc main_arg0)) (m ((c : Thread nD τ).loc main_arg2)) (m ((c : Thread nD τ).loc main_arg3))
      (m ((c : Thread nD τ).loc main_arg5)) (m ((c : Thread nD τ).loc main_arg6)) (m ((c : Thread nD τ).loc main_arg7))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) := by
  unfold Pipeline.afterTail₀
  show StableHlo.after hostOps1 _ (Proc.devRef .tc main_v0) = _
  after_results
  have h : Pipeline.withArrays (cfgs 0).spec c (V0 m c) (fun w => (dats m 0 c).arrAt w (cfgs 0).N) (Proc.devRef .tc main_call0_v7) = outsAt0 m c t0_0 :=
    (Pipeline.withArrays_arr spec0 (by decide) c (V0 m c) (fun w => (dats m 0 c).arrAt w (cfgs 0).N) 11).trans (final m c)
  have e : outsAt0 m c t0_0 = out (m ((c : Thread nD τ).loc main_arg2)) (m ((c : Thread nD τ).loc main_arg3))
      (shapeCast S1x256 (m ((c : Thread nD τ).loc main_arg5) : Vec F S256 .f32) shapeCasts_S256_S1x256)
      (shapeCast S1x256 (m ((c : Thread nD τ).loc main_arg6) : Vec F S256 .f32) shapeCasts_S256_S1x256) (m ((c : Thread nD τ).loc main_arg7))
      (shapeCast S1x256 (m ((c : Thread nD τ).loc main_arg9) : Vec F S256 .f32) shapeCasts_S256_S1x256)
      (shapeCast S1x256 (m ((c : Thread nD τ).loc main_arg10) : Vec F S256 .f32) shapeCasts_S256_S1x256) (m ((c : Thread nD τ).loc main_arg11))
      (shapeCast S1x256 (m ((c : Thread nD τ).loc main_arg12) : Vec F S256 .f32) shapeCasts_S256_S1x256)
      (transpose S10x256 [1, 0] (m ((c : Thread nD τ).loc main_arg13) : Vec F S256x10 .f32) transposes_S256x10_S10x256_1_0)
      (shapeCast S1x10 (m ((c : Thread nD τ).loc main_arg14) : Vec F S10 .f32) shapeCasts_S10_S1x10) (m ((c : Thread nD τ).loc main_arg0)) := by
    rw [outsAt0_eq, iblk0, iblk1, iblk2, iblk3, iblk4, iblk5, iblk6, iblk7, iblk8, iblk9, iblk10, V_v0, V_v1, V_v2, V_v3, V_v4, V_v5, V_v6,
      V_main_arg0, V_main_arg2, V_main_arg3, V_main_arg7, V_main_arg11]
  exact congrArg (fun Y : Vec F S10x64 .f32 => transpose S64x10 [1, 0] Y transposes_S10x64_S64x10_1_0) (h.trans e)

variable (ρ : Dev nD → PrngReg)

/-- Every run ends with the result buffer at `result` of the arguments as launched. -/
theorem run : θ_run defs (onTc (τ := τ) (main (F := F))) (s₀ m ρ) fun r => ∀ c : Dev nD, r.2.mem ((c : Thread nD τ).loc main_v0)
    = result (m ((c : Thread nD τ).loc main_arg0)) (m ((c : Thread nD τ).loc main_arg2)) (m ((c : Thread nD τ).loc main_arg3))
      (m ((c : Thread nD τ).loc main_arg5)) (m ((c : Thread nD τ).loc main_arg6)) (m ((c : Thread nD τ).loc main_arg7))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) :=
  (θ_run defs _ _).mono (fun _ h c => ((h c).2 main_v0 (Pipeline.mem_restRefs_of main_v0 (by decide) (by decide))).trans (tail m c)) (run_main m ρ)

end Cert.KernelIdeal.Term
-- ==== Proof.Math.lean ====
/- The kernel's mathematics and the reference's, as functions of plain arrays of extended reals, and the equation between them. -/
module

public import Idealize.ShloMosaic.PureOps.Ideal.Laws
public import Idealize.ShloMosaic.Lib.IdealHost
public import Mathlib.Tactic.Ring
public import Mathlib.Tactic.FieldSimp
public import Mathlib.Tactic.Linarith

@[expose] public section

noncomputable section

namespace Cert.Gcn

open Idealize.ShloMosaic

/-- The number of rows, as both programs write it. -/
abbrev rowCount : EReal := Ideal.ofBits FTy.f32 1176256512#32
/-- The small number that both programs add to a variance. -/
abbrev small : EReal := Ideal.ofBits FTy.f32 925353388#32

/-- The number of rows is ten thousand. -/
theorem rowCount_eq : rowCount = ((10000 : ℝ) : EReal) := by
  simp [rowCount, Ideal.ofBits, Ideal.ieee, -EReal.coe_mul]; norm_num

/-- The small number is a positive real. -/
theorem small_eq : ∃ e : ℝ, 0 < e ∧ small = (e : EReal) := by
  refine ⟨(10995116 : ℝ) / 2 ^ 40, by norm_num, ?_⟩
  simp [small, Ideal.ofBits, Ideal.ieee, -EReal.coe_mul]; norm_num

/-- An array of rows of features. -/
abbrev Rows := Fin 10000 → Fin 256 → EReal
/-- A square array of weights. -/
abbrev Weights := Fin 256 → Fin 256 → EReal
/-- One number per feature. -/
abbrev Feat := Fin 256 → EReal

/-- The product of the rows and the weights. -/
def lin (A : Rows) (W : Weights) : Rows := fun n j => ∑ k, A n k * W k j

/-- The kernel's mean of the products: the mean row times the weights. -/
def kMean (A : Rows) (W : Weights) : Feat := fun j => ∑ k, Ideal.div (∑ n, A n k) rowCount * W k j

/-- The kernel's factor of a feature: the mean square less the squared mean, under the root. -/
def kScale (A : Rows) (W : Weights) (g : Feat) : Feat := fun j =>
  g j * Ideal.rsqrt (Ideal.div (∑ n, lin A W n j * lin A W n j) rowCount - kMean A W j * kMean A W j + small)

/-- The kernel's layer: scaled, shifted and cut off at zero. -/
def kLayer (A : Rows) (W : Weights) (g b : Feat) : Rows := fun n j =>
  max (lin A W n j * kScale A W g j + (b j - kMean A W j * kScale A W g j)) 0

/-- The reference's mean of the products with their bias. -/
def rMean (A : Rows) (W : Weights) (c : Feat) : Feat := fun j => Ideal.div (∑ n, (lin A W n j + c j)) rowCount

/-- The reference's layer: normalized by the mean of the squared differences, scaled, shifted and cut off at zero. -/
def rLayer (A : Rows) (W : Weights) (c g b : Feat) : Rows := fun n j =>
  max (Ideal.div (lin A W n j + c j - rMean A W c j)
      (Ideal.sqrt (Ideal.div (∑ i, (lin A W i j + c j - rMean A W c j) * (lin A W i j + c j - rMean A W c j)) rowCount + small)) * g j + b j) 0

/-- A real sum, seen among the extended reals, is the sum of its terms. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The mean of the squared differences is the mean square less the squared mean. -/
theorem mean_sq (h : Fin 10000 → ℝ) (μ : ℝ) (hμ : μ = (∑ n, h n) / 10000) :
    (∑ n, (h n - μ) * (h n - μ)) / 10000 = (∑ n, h n * h n) / 10000 - μ * μ := by
  have e : ∑ n, (h n - μ) * (h n - μ) = ∑ n, h n * h n - 2 * μ * ∑ n, h n + 10000 * (μ * μ) := by
    rw [Finset.mul_sum, ← Finset.sum_sub_distrib, show (10000 : ℝ) * (μ * μ) = ∑ _n : Fin 10000, μ * μ by simp, ← Finset.sum_add_distrib]
    exact Finset.sum_congr rfl fun n _ => by ring
  have e' : ∑ n, h n = 10000 * μ := by rw [hμ]; ring
  rw [e, e']; ring

/-- The mean row times the weights is the mean of the products. -/
theorem mean_lin (a : Fin 10000 → Fin 256 → ℝ) (w : Fin 256 → ℝ) :
    ∑ k, (∑ n, a n k) / 10000 * w k = (∑ n, ∑ k, a n k * w k) / 10000 := by
  rw [Finset.sum_comm, Finset.sum_div]
  exact Finset.sum_congr rfl fun k _ => by rw [← Finset.sum_mul]; ring

/-- A real divided by a real other than zero is their real quotient. -/
theorem div_real (x : ℝ) {y : ℝ} (hy : y ≠ 0) : Ideal.div (x : EReal) (y : EReal) = ((x / y : ℝ) : EReal) := by
  rw [Ideal.div_coe hy, ← EReal.coe_mul]; congr 1; ring

section Real

variable {A : Rows} {W : Weights} {c g : Feat} {a : Fin 10000 → Fin 256 → ℝ} {w : Fin 256 → Fin 256 → ℝ} {c' g' : Fin 256 → ℝ}

/-- Real rows and weights have real products. -/
theorem lin_real (hA : ∀ n k, A n k = a n k) (hW : ∀ k j, W k j = w k j) (n : Fin 10000) (j : Fin 256) :
    lin A W n j = ((∑ k, a n k * w k j : ℝ) : EReal) := by
  rw [coe_sum]; exact Finset.sum_congr rfl fun k _ => by rw [hA, hW, EReal.coe_mul]

/-- The kernel's mean is the real mean of the products. -/
theorem kMean_real (hA : ∀ n k, A n k = a n k) (hW : ∀ k j, W k j = w k j) (j : Fin 256) :
    kMean A W j = (((∑ n, ∑ k, a n k * w k j) / 10000 : ℝ) : EReal) := by
  rw [← mean_lin a fun k => w k j, coe_sum]
  refine Finset.sum_congr rfl fun k _ => ?_
  rw [hW, show ∑ n, A n k = ((∑ n, a n k : ℝ) : EReal) by rw [coe_sum]; exact Finset.sum_congr rfl fun n _ => hA n k,
    rowCount_eq, div_real _ (by norm_num), EReal.coe_mul]

/-- The reference's mean is that mean plus the bias. -/
theorem rMean_real (hA : ∀ n k, A n k = a n k) (hW : ∀ k j, W k j = w k j) (hc : ∀ j, c j = c' j) (j : Fin 256) :
    rMean A W c j = (((∑ n, ∑ k, a n k * w k j) / 10000 + c' j : ℝ) : EReal) := by
  unfold rMean
  rw [show ∑ n, (lin A W n j + c j) = ((∑ n, (∑ k, a n k * w k j + c' j) : ℝ) : EReal) by
      rw [coe_sum]; exact Finset.sum_congr rfl fun n _ => by rw [lin_real hA hW, hc, EReal.coe_add],
    rowCount_eq, div_real _ (by norm_num), Finset.sum_add_distrib]
  congr 1
  simp
  ring

/-- A number that both layers multiply by, a feature's scale over its deviation, real where rows, weights and scale are. -/
theorem scale_real (hA : ∀ n k, A n k = a n k) (hW : ∀ k j, W k j = w k j) (hc : ∀ j, c j = c' j) (hg : ∀ j, g j = g' j) (j : Fin 256) :
    ∃ d : ℝ, d ≠ 0 ∧ kScale A W g j = ((g' j / d : ℝ) : EReal) ∧
      Ideal.sqrt (Ideal.div (∑ i, (lin A W i j + c j - rMean A W c j) * (lin A W i j + c j - rMean A W c j)) rowCount + small) = (d : EReal) := by
  obtain ⟨e, he, hs⟩ := small_eq
  have hv := mean_sq (fun n => ∑ k, a n k * w k j) _ rfl
  set μ : ℝ := (∑ n, ∑ k, a n k * w k j) / 10000 with hμ
  set v : ℝ := (∑ n, (∑ k, a n k * w k j - μ) * (∑ k, a n k * w k j - μ)) / 10000 with hvdef
  have hv0 : 0 ≤ v := div_nonneg (Finset.sum_nonneg fun n _ => mul_self_nonneg _) (by norm_num)
  have hp : 0 < v + e := by linarith
  refine ⟨Real.sqrt (v + e), (Real.sqrt_pos.mpr hp).ne', ?_, ?_⟩
  · unfold kScale
    rw [show ∑ n, lin A W n j * lin A W n j = ((∑ n, (∑ k, a n k * w k j) * (∑ k, a n k * w k j) : ℝ) : EReal) by
        rw [coe_sum]; exact Finset.sum_congr rfl fun n _ => by rw [lin_real hA hW, EReal.coe_mul],
      rowCount_eq, div_real _ (by norm_num), kMean_real hA hW, hs, hg, ← EReal.coe_mul, ← EReal.coe_sub, ← hμ, ← hv, ← EReal.coe_add,
      Ideal.rsqrt_coe, if_neg (not_lt.mpr hp.le), if_neg hp.ne', ← EReal.coe_mul]
    rfl
  · rw [show ∑ i, (lin A W i j + c j - rMean A W c j) * (lin A W i j + c j - rMean A W c j)
          = ((∑ n, (∑ k, a n k * w k j - μ) * (∑ k, a n k * w k j - μ) : ℝ) : EReal) by
        rw [coe_sum]
        refine Finset.sum_congr rfl fun n _ => ?_
        rw [lin_real hA hW, hc, rMean_real hA hW hc, ← hμ, ← EReal.coe_add, ← EReal.coe_sub, add_sub_add_right_eq_sub, ← EReal.coe_mul],
      rowCount_eq, div_real _ (by norm_num), hs, ← hvdef, ← EReal.coe_add, Ideal.sqrt_coe, if_neg (not_lt.mpr hp.le)]

/-- The two layers agree where rows, weights, bias and scale are real, whatever the shift. -/
theorem layer_eq (hA : ∀ n k, A n k = a n k) (hW : ∀ k j, W k j = w k j) (hc : ∀ j, c j = c' j) (hg : ∀ j, g j = g' j) (b : Feat) :
    kLayer A W g b = rLayer A W c g b := by
  funext n j
  obtain ⟨d, hd, hk, hr⟩ := scale_real hA hW hc hg j
  unfold kLayer rLayer
  rw [hk, hr, lin_real hA hW, kMean_real hA hW, rMean_real hA hW hc, hc, hg]
  generalize (∑ k, a n k * w k j) = h
  generalize (∑ n, ∑ k, a n k * w k j) / 10000 = μ
  rw [← EReal.coe_add, ← EReal.coe_sub, div_real _ hd, ← EReal.coe_mul, ← EReal.coe_mul, ← EReal.coe_mul]
  congr 1
  induction b j using EReal.rec with
  | bot => simp
  | top => rw [EReal.top_sub_coe, EReal.coe_add_top, EReal.coe_add_top]
  | coe x =>
    rw [← EReal.coe_sub, ← EReal.coe_add, ← EReal.coe_add]
    congr 1; field_simp; ring

/-- A layer of real rows, weights and scale is real, where no shift is plus infinity. -/
theorem layer_real (hA : ∀ n k, A n k = a n k) (hW : ∀ k j, W k j = w k j) (hg : ∀ j, g j = g' j) {b : Feat}
    (hb : ∀ j, b j ≠ ⊤) : ∃ r : Fin 10000 → Fin 256 → ℝ, ∀ n j, kLayer A W g b n j = r n j := by
  have key : ∀ n j, ∃ r : ℝ, kLayer A W g b n j = r := fun n j => by
    obtain ⟨d, hd, hk, -⟩ := scale_real (c := fun _ => 0) (c' := fun _ => 0) hA hW (fun _ => rfl) hg j
    unfold kLayer
    rw [hk, lin_real hA hW, kMean_real hA hW]
    have hj := hb j
    generalize b j = x at hj
    induction x using EReal.rec with
    | bot => exact ⟨0, by rw [← EReal.coe_mul, ← EReal.coe_mul]; simp⟩
    | top => exact absurd rfl hj
    | coe x => exact ⟨max _ 0, by simp only [← EReal.coe_mul, ← EReal.coe_sub, ← EReal.coe_add, ← EReal.coe_zero]; exact (EReal.coe_strictMono.monotone.map_max).symm⟩
  choose r hr using key
  exact ⟨r, hr⟩

end Real

/-- A sum over ten thousand rows is the sum over five blocks of two thousand, added one after the other. -/
theorem sum_blocks (f : Fin 10000 → EReal) (q : Fin 5 → Fin 2000 → Fin 10000) (hq : ∀ i n, (q i n).val = 2000 * i.val + n.val) :
    ∑ n, f (q 0 n) + ∑ n, f (q 1 n) + ∑ n, f (q 2 n) + ∑ n, f (q 3 n) + ∑ n, f (q 4 n) = ∑ n, f n := by
  have e : ∑ n, f n = ∑ p : Fin 5 × Fin 2000, f (finProdFinEquiv p) := (Equiv.sum_comp (finProdFinEquiv (m := 5) (n := 2000)) f).symm
  rw [e, Fintype.sum_prod_type, Fin.sum_univ_five]
  have hf : ∀ i n, finProdFinEquiv (i, n) = q i n := fun i n => Fin.ext (by rw [hq]; simp [finProdFinEquiv]; ring)
  simp only [hf]

/-- The mean of each group's rows; a group without rows has a zero mean. -/
def groupMean (B : Fin 10000 → BitVec 32) (H : Rows) : Fin 64 → Fin 256 → EReal := fun s j =>
  Ideal.div (∑ n, if B n = BitVec.ofNat 32 s.val then H n j else 0) (max (∑ n, if B n = BitVec.ofNat 32 s.val then 1 else 0) 1)

/-- The two dense layers over the pooled rows. -/
def logits (P : Fin 64 → Fin 256 → EReal) (Wf : Weights) (bf : Feat) (Wl : Fin 256 → Fin 10 → EReal) (bl : Fin 10 → EReal) :
    Fin 64 → Fin 10 → EReal := fun s t =>
  ∑ x, max (∑ k, P s k * Wf k x + bf x) 0 * Wl x t + bl t

/-- The largest of ten numbers, or the pattern of minus infinity. -/
def largest (z : Fin 10 → EReal) : EReal := Finset.fold max (Ideal.ofBits FTy.f32 4286578688#32) z Finset.univ

/-- The pattern that the search starts with does not change the largest number. -/
theorem max_largest (z : Fin 10 → EReal) :
    max (Ideal.ofBits FTy.f32 4286578688#32) (Finset.fold max (Ideal.ofBits FTy.f32 4286578688#32) z Finset.univ)
      = Finset.fold max (Ideal.ofBits FTy.f32 4286578688#32) z Finset.univ :=
  max_eq_right ((Finset.le_fold_max _).2 (.inl le_rfl))

/-- The logarithm of the softmax, with the largest number taken off first. -/
def logSoftmax (z : Fin 10 → EReal) : Fin 10 → EReal := fun t =>
  z t - largest z - Ideal.log (∑ x, Ideal.exp (z x - largest z))

end Cert.Gcn
-- ==== Proof.KernelRead.lean ====
/- The kernel's values read at an index. -/
module

public import proofs.«01_k».proof.Proof.Term
public import proofs.«01_k».proof.Proof.Math
public import Idealize.ShloMosaic.Lib.Pointwise

@[expose] public section

set_option maxRecDepth 16384

noncomputable section

namespace Cert.KernelIdeal.Term

open Cert.KernelIdeal Cert.KernelIdeal.Gen Cert.Gcn
open Idealize.ShloMosaic Idealize.ShloMosaic.TcCoe Idealize.ShloMosaic.Tactic
open Idealize.SL.Sem

/-- The place of row `n` of block `i` among all rows. -/
def place (i : Fin 5) (n : Fin 2000) : Fin 10000 := ⟨2000 * i.val + n.val, by omega⟩

/-! A block of rows at an index is the input there. -/

theorem blk0_apply (X : Vec Ideal S10000x256 .f32) (n : Fin 2000) (k : Fin 256) : blk0 X (ix2 n k) = X (ix2 (place 0 n) k) := by
  pointwise [blk0, rows, place]
theorem blk1_apply (X : Vec Ideal S10000x256 .f32) (n : Fin 2000) (k : Fin 256) : blk1 X (ix2 n k) = X (ix2 (place 1 n) k) := by
  pointwise [blk1, rows, place]
theorem blk2_apply (X : Vec Ideal S10000x256 .f32) (n : Fin 2000) (k : Fin 256) : blk2 X (ix2 n k) = X (ix2 (place 2 n) k) := by
  pointwise [blk2, rows, place]
theorem blk3_apply (X : Vec Ideal S10000x256 .f32) (n : Fin 2000) (k : Fin 256) : blk3 X (ix2 n k) = X (ix2 (place 3 n) k) := by
  pointwise [blk3, rows, place]
theorem blk4_apply (X : Vec Ideal S10000x256 .f32) (n : Fin 2000) (k : Fin 256) : blk4 X (ix2 n k) = X (ix2 (place 4 n) k) := by
  pointwise [blk4, rows, place]

variable (X : Vec Ideal S10000x256 .f32) (W : Vec Ideal S256x256 .f32) (g b : Vec Ideal S1x256 .f32)

/-- The input's rows, as a plain array. -/
abbrev inRows : Rows := fun n k => X (ix2 n k)
/-- A square array of weights, as a plain array. -/
abbrev wts : Weights := fun k j => W (ix2 k j)
/-- One number per feature, as a plain array. -/
abbrev feat : Feat := fun j => g (ix2 0 j)

/-- The products' squares of all blocks, summed. -/
theorem squares (j : Fin 256) :
    k0_pay13 (k0_pay5 W) k0_pay6 (k0_pay9 W (blk0 X) (blk1 X)) (blk2 X) (blk3 X) (ix2 0 j)
        + ∑ n, (∑ k, blk4 X (ix2 n k) * W (ix2 k j)) * ∑ k, blk4 X (ix2 n k) * W (ix2 k j)
      = ∑ n, lin (inRows X) (wts W) n j * lin (inRows X) (wts W) n j := by
  rw [← sum_blocks (fun n => lin (inRows X) (wts W) n j * lin (inRows X) (wts W) n j) place fun _ _ => rfl]
  pointwise [k0_pay13, k0_pay11, k0_pay12, k0_pay6, k0_pay9, k0_pay7, k0_pay8, k0_pay5]
  simp only [blk0_apply, blk1_apply, blk2_apply, blk3_apply, blk4_apply, lin]

/-- The rows of all blocks, summed. -/
theorem sums (k : Fin 256) :
    k0_pay14 (k0_pay10 (blk0 X) (blk1 X)) (blk2 X) (blk3 X) (ix2 0 k) + ∑ n, blk4 X (ix2 n k) = ∑ n, inRows X n k := by
  rw [← sum_blocks (fun n => inRows X n k) place fun _ _ => rfl]
  pointwise [k0_pay14, k0_pay10]
  simp only [blk0_apply, blk1_apply, blk2_apply, blk3_apply, blk4_apply]

/-- The products of the five blocks, one after the other, are the products of all rows. -/
theorem joined (n : Fin 10000) (j : Fin 256) :
    (if h : n.val < 2000 then k0_pay7 W (blk0 X) (ix2 ⟨n.val, h⟩ j) else
      if h : n.val - 2000 < 2000 then k0_pay8 W (blk1 X) (ix2 ⟨n.val - 2000, h⟩ j) else
      if h : n.val - 2000 - 2000 < 2000 then k0_pay11 (k0_pay5 W) (blk2 X) (ix2 ⟨n.val - 2000 - 2000, h⟩ j) else
      if h : n.val - 2000 - 2000 - 2000 < 2000 then k0_pay12 (k0_pay5 W) (blk3 X) (ix2 ⟨n.val - 2000 - 2000 - 2000, h⟩ j) else
        ∑ k, blk4 X (ix2 ⟨n.val - 2000 - 2000 - 2000 - 2000, by omega⟩ k) * W (ix2 k j))
      = lin (inRows X) (wts W) n j := by
  have e : ∀ (i : Fin 5) (h : n.val - 2000 * i.val < 2000), 2000 * i.val ≤ n.val → place i ⟨n.val - 2000 * i.val, h⟩ = n :=
    fun i h h' => Fin.ext (by simp only [place]; omega)
  split
  · next h =>
    pointwise [k0_pay7, k0_pay5]
    simp only [blk0_apply, lin]
    rw [show place 0 ⟨n.val, h⟩ = n from e 0 h (by omega)]
  split
  · next h =>
    pointwise [k0_pay8, k0_pay5]
    simp only [blk1_apply, lin]
    rw [show place 1 ⟨n.val - 2000, h⟩ = n from e 1 h (by simp; omega)]
  split
  · next h =>
    pointwise [k0_pay11, k0_pay5]
    simp only [blk2_apply, lin]
    rw [show place 2 ⟨n.val - 2000 - 2000, h⟩ = n from Fin.ext (by simp [place]; omega)]
  split
  · next h =>
    pointwise [k0_pay12, k0_pay5]
    simp only [blk3_apply, lin]
    rw [show place 3 ⟨n.val - 2000 - 2000 - 2000, h⟩ = n from Fin.ext (by simp [place]; omega)]
  · simp only [blk4_apply, lin]
    rw [show place 4 ⟨n.val - 2000 - 2000 - 2000 - 2000, by omega⟩ = n from Fin.ext (by simp [place]; omega)]

/-- The first layer is the kernel's layer of the input. -/
theorem layer1_apply (n : Fin 10000) (j : Fin 256) :
    layer1 X W g b (ix2 n j) = kLayer (inRows X) (wts W) (feat g) (feat b) n j := by
  unfold kLayer kScale kMean
  rw [← squares, ← joined]
  simp only [← sums]
  pointwise [layer1, k0_pay15, k0_pay5, k0_pay6]

/-- One where the row belongs to the group, zero elsewhere. -/
theorem onehot (B : Vec Ideal S10000 .i32) (s : Fin 64) (n : Fin 10000) :
    (FloatOps.sitofp (F := Ideal) FTy.f32 (BitVec.setWidth 32 (IntOp.cmpi .eq (B (ix1 n)) (BitVec.ofNat 32 s.val))) : EReal)
      = if B (ix1 n) = BitVec.ofNat 32 s.val then 1 else 0 := by
  rw [show ∀ w : BitVec 32, (FloatOps.sitofp (F := Ideal) FTy.f32 w : EReal) = ((w.toInt : ℝ) : EReal) from fun _ => rfl]
  split
  · next h => simp [IntOp.cmpi, h]
  · next h => simp [IntOp.cmpi, beq_eq_false_iff_ne.mpr h]

/-- The pooled second layer is the mean of each group's rows of the kernel's layer. -/
theorem pooled_apply (B : Vec Ideal S10000 .i32) (H : FVec Ideal S10000x256 .bf16) (s : Fin 64) (j : Fin 256) :
    pooled B H W g b (ix2 s j) = groupMean (fun n => B (ix1 n)) (kLayer (fun n k => H (ix2 n k)) (wts W) (feat g) (feat b)) s j := by
  unfold groupMean kLayer kScale kMean lin
  pointwise [pooled, k0_pay17, k0_pay16, k0_pay4, k0_pay3, k0_pay2]
  simp only [onehot, ite_mul, one_mul, zero_mul]

/-- What the kernel stores is the logarithm of the softmax of the two dense layers over the pooled rows. -/
theorem out_apply (P : FVec Ideal S64x256 .f32) (Wf : Vec Ideal S256x256 .f32) (bf : Vec Ideal S1x256 .f32) (Wl : Vec Ideal S10x256 .f32) (bl : Vec Ideal S1x10 .f32) (t : Fin 10) (s : Fin 64) :
    k0_pay1 P Wf (constant S64x256 FTy.f32 0#32) bf Wl bl (ix2 t s)
      = logSoftmax (logits (fun s k => P (ix2 s k)) (wts Wf) (feat bf) (fun x t => Wl (ix2 t x)) (fun t => bl (ix2 0 t)) s) t := by
  unfold logSoftmax largest logits
  pointwise [k0_pay1]

end Cert.KernelIdeal.Term
-- ==== Proof.RefRead.lean ====
/- The reference's values read at an index. -/
module

public import proofs.«01_k».proof.Proof.Gen.ReferenceIdeal.Read
public import proofs.«01_k».proof.Proof.Math
public import Idealize.ShloMosaic.Lib.Pointwise
public import Idealize.ShloMosaic.Lib.Routing.OpsPair

@[expose] public section

set_option maxRecDepth 16384

noncomputable section

namespace Cert.ReferenceIdeal.Read

open Cert.ReferenceIdeal Cert.ReferenceIdeal.Gen Cert.Gcn
open Idealize.ShloMosaic Idealize.ShloMosaic.TcCoe Idealize.ShloMosaic.Tactic
open Idealize.SL.Sem

variable (x0 : Vec Ideal S10000x256 .f32) (x2 : Vec Ideal S10000 .i32) (x3 : Vec Ideal S256x256 .f32) (x4 x5 x6 : Vec Ideal S256 .f32)
  (x7 : Vec Ideal S256x256 .f32) (x8 x9 x10 : Vec Ideal S256 .f32) (x11 : Vec Ideal S256x256 .f32) (x12 : Vec Ideal S256 .f32)
  (x13 : Vec Ideal S256x10 .f32) (x14 : Vec Ideal S10 .f32)

/-- An array of rows, as a plain array. -/
abbrev inRows : Rows := fun n k => x0 (ix2 n k)
/-- A square array of weights, as a plain array. -/
abbrev wts : Weights := fun k j => x3 (ix2 k j)
/-- One number per feature, as a plain array. -/
abbrev feat : Feat := fun j => x4 (ix1 j)

/-- The reference's first layer is its layer of the input. -/
theorem first_apply (n : Fin 10000) (j : Fin 256) :
    val_main_v29 x0 x3 x4 x5 x6 (ix2 n j) = rLayer (inRows x0) (wts x3) (feat x4) (feat x5) (feat x6) n j := by
  unfold rLayer rMean lin
  pointwise [val_main_v0, val_main_v1, val_main_v2, val_main_v3, val_main_cst, val_main_v4, val_main_cst_0, val_main_v5, val_main_v6, val_main_v7, val_main_v8, val_main_v9, val_main_v10, val_main_cst_1, val_main_v11, val_main_cst_2, val_main_v12, val_main_v13, val_main_v14, val_main_v15, val_main_v16, val_main_cst_3, val_main_v17, val_main_v18, val_main_v19, val_main_v20, val_main_v21, val_main_v22, val_main_v23, val_main_v24, val_main_v25, val_main_v26, val_main_v27, val_main_v28, val_main_call0_cst, val_main_call0_v0, val_main_v29]

/-- Its second layer is that layer of the first one's rows. -/
theorem second_apply (n : Fin 10000) (j : Fin 256) :
    val_main_v59 x0 x3 x4 x5 x6 x7 x8 x9 x10 (ix2 n j)
      = rLayer (inRows (val_main_v29 x0 x3 x4 x5 x6)) (wts x7) (feat x8) (feat x9) (feat x10) n j := by
  unfold rLayer rMean lin
  pointwise [val_main_v30, val_main_v31, val_main_v32, val_main_v33, val_main_cst_4, val_main_v34, val_main_cst_5, val_main_v35, val_main_v36, val_main_v37, val_main_v38, val_main_v39, val_main_v40, val_main_cst_6, val_main_v41, val_main_cst_7, val_main_v42, val_main_v43, val_main_v44, val_main_v45, val_main_v46, val_main_cst_8, val_main_v47, val_main_v48, val_main_v49, val_main_v50, val_main_v51, val_main_v52, val_main_v53, val_main_v54, val_main_v55, val_main_v56, val_main_v57, val_main_v58, val_main_call1_cst, val_main_call1_v0, val_main_v59, val_main_cst, val_main_cst_0, val_main_cst_1, val_main_cst_2, val_main_cst_3, val_main_call0_cst]

/-- A signed index word equals a group's number exactly when it is that number's word. -/
theorem names_group (w : BitVec 32) (s : Fin 64) : w.toInt = (s.val : Int) ↔ w = BitVec.ofNat 32 s.val := by
  have h : (BitVec.ofNat 32 s.val).toNat = s.val := by rw [BitVec.toNat_ofNat]; exact Nat.mod_eq_of_lt (by omega)
  rw [← BitVec.toInt_inj, BitVec.toInt_eq_toNat_of_lt (x := BitVec.ofNat 32 s.val) (by omega), h]

/-- What a row adds to its group lands at the group that its index names, in the row's own column. -/
theorem lands_rows (idx : IVec S10000x1 32) (n : Fin 10000) (k : Fin 256) (s : Fin 64) (j : Fin 256) :
    scatter_S64x256_S10000x1_S10000x256_1_0_0_1.resultIdx? (ix2 n k) idx = some (ix2 s j)
      ↔ idx (ix2 n 0) = BitVec.ofNat 32 s.val ∧ k = j := by
  refine (Routing.resultIdx?_eq_some _ _ _ _).trans (Fin.forall_fin_two.trans ?_)
  have h0 : scatter_S64x256_S10000x1_S10000x256_1_0_0_1.start (ix2 n k) idx 0 = (idx (ix2 n 0)).toInt := by
    unfold ScatterDims.start
    rw [dif_pos (by decide)]
    refine congrArg (fun i => (idx i).toInt) ?_
    funext a
    fin_cases a <;> rfl
  have h1 : scatter_S64x256_S10000x1_S10000x256_1_0_0_1.start (ix2 n k) idx 1 = 0 := by
    unfold ScatterDims.start
    rw [dif_neg (by decide)]
  have w0 : scatter_S64x256_S10000x1_S10000x256_1_0_0_1.window (ix2 n k) 0 = 0 := rfl
  have w1 : scatter_S64x256_S10000x1_S10000x256_1_0_0_1.window (ix2 n k) 1 = k.val := rfl
  rw [h0, h1, w0, w1, Nat.cast_zero, add_zero, zero_add]
  show (idx (ix2 n 0)).toInt = (s.val : Int) ∧ (k.val : Int) = (j.val : Int) ↔ _
  rw [names_group, Nat.cast_inj, Fin.ext_iff]

/-- What a row adds to its group's count lands at the group that its index names. -/
theorem lands_counts (idx : IVec S10000x1 32) (n : Fin 10000) (s : Fin 64) :
    scatter_S64x1_S10000x1_S10000x1_1_0_0_1.resultIdx? (ix2 n 0) idx = some (ix2 s 0) ↔ idx (ix2 n 0) = BitVec.ofNat 32 s.val := by
  refine (Routing.resultIdx?_eq_some _ _ _ _).trans (Fin.forall_fin_two.trans ?_)
  have h0 : scatter_S64x1_S10000x1_S10000x1_1_0_0_1.start (ix2 n 0) idx 0 = (idx (ix2 n 0)).toInt := by
    unfold ScatterDims.start
    rw [dif_pos (by decide)]
    refine congrArg (fun i => (idx i).toInt) ?_
    funext a
    fin_cases a <;> rfl
  have h1 : scatter_S64x1_S10000x1_S10000x1_1_0_0_1.start (ix2 n 0) idx 1 = 0 := by
    unfold ScatterDims.start
    rw [dif_neg (by decide)]
  have w0 : scatter_S64x1_S10000x1_S10000x1_1_0_0_1.window (ix2 n 0) 0 = 0 := rfl
  have w1 : scatter_S64x1_S10000x1_S10000x1_1_0_0_1.window (ix2 n 0) 1 = 0 := rfl
  rw [h0, h1, w0, w1, Nat.cast_zero, add_zero]
  show (idx (ix2 n 0)).toInt = (s.val : Int) ∧ (0 : Int) = 0 ↔ _
  rw [names_group, and_iff_left rfl]

/-- The summed rows of each group. -/
theorem groupSum_apply (s : Fin 64) (j : Fin 256) :
    val_main_v62 x0 x2 x3 x4 x5 x6 x7 x8 x9 x10 (ix2 s j)
      = ∑ n, if x2 (ix1 n) = BitVec.ofNat 32 s.val then val_main_v59 x0 x3 x4 x5 x6 x7 x8 x9 x10 (ix2 n j) else 0 := by
  have e : ∀ n, val_main_v61 (F := Ideal) x2 (ix2 n 0) = x2 (ix1 n) := fun n => by pointwise [val_main_v61]
  have z : val_main_v60 (F := Ideal) (ix2 s j) = 0 := by pointwise [val_main_v60, val_main_cst_9]
  unfold val_main_v62
  generalize val_main_v59 x0 x3 x4 x5 x6 x7 x8 x9 x10 = u
  show val_main_v60 (F := Ideal) (ix2 s j) + ∑ i ∈ Finset.univ.filter
    (fun i => scatter_S64x256_S10000x1_S10000x256_1_0_0_1.resultIdx? i (val_main_v61 x2) = some (ix2 s j)), u i = _
  rw [z, zero_add, Finset.sum_filter, sum_idx2]
  refine Finset.sum_congr rfl fun n _ => ?_
  simp only [lands_rows, e]
  by_cases h : x2 (ix1 n) = BitVec.ofNat 32 s.val <;> simp [h]

/-- The number of each group's rows. -/
theorem groupCount_apply (s : Fin 64) :
    val_main_v66 (F := Ideal) x2 (ix2 s 0) = ∑ n, if x2 (ix1 n) = BitVec.ofNat 32 s.val then 1 else 0 := by
  have e : ∀ n, val_main_v65 (F := Ideal) x2 (ix2 n 0) = x2 (ix1 n) := fun n => by pointwise [val_main_v65]
  have z : val_main_v64 (F := Ideal) (ix2 s 0) = 0 := by pointwise [val_main_v64, val_main_cst_11]
  have o : ∀ i, val_main_v63 (F := Ideal) i = 1 := fun i => by pointwise [val_main_v63, val_main_cst_10]
  unfold val_main_v66
  show val_main_v64 (F := Ideal) (ix2 s 0) + ∑ i ∈ Finset.univ.filter
    (fun i => scatter_S64x1_S10000x1_S10000x1_1_0_0_1.resultIdx? i (val_main_v65 x2) = some (ix2 s 0)), val_main_v63 (F := Ideal) i = _
  rw [z, zero_add, Finset.sum_filter, sum_idx2]
  refine Finset.sum_congr rfl fun n _ => ?_
  rw [Fin.sum_univ_one]
  simp only [lands_counts, e, o]

/-- The mean of each group's rows. -/
theorem mean_apply (s : Fin 64) (j : Fin 256) :
    val_main_v70 x0 x2 x3 x4 x5 x6 x7 x8 x9 x10 (ix2 s j)
      = groupMean (fun n => x2 (ix1 n)) (inRows (val_main_v59 x0 x3 x4 x5 x6 x7 x8 x9 x10)) s j := by
  unfold groupMean
  rw [← groupCount_apply, ← groupSum_apply]
  pointwise [val_main_v67, val_main_v68, val_main_v69, val_main_v70, val_main_cst, val_main_cst_0, val_main_cst_1, val_main_cst_2, val_main_cst_3, val_main_call0_cst, val_main_cst_4, val_main_cst_5, val_main_cst_6, val_main_cst_7, val_main_cst_8, val_main_call1_cst, val_main_cst_9, val_main_cst_10, val_main_cst_11, val_main_cst_12, val_main_call2_cst, val_main_call3_cst, val_main_call3_cst_0, val_main_call3_cst_1]

/-- The reference's result: the logarithm of the softmax of the two dense layers over those means. -/
theorem final_apply (s : Fin 64) (t : Fin 10) :
    val_main_v80 x0 x2 x3 x4 x5 x6 x7 x8 x9 x10 x11 x12 x13 x14 (ix2 s t)
      = logSoftmax (logits (fun s k => val_main_v70 x0 x2 x3 x4 x5 x6 x7 x8 x9 x10 (ix2 s k)) (wts x11) (feat x12)
          (fun x t => x13 (ix2 x t)) (fun t => x14 (ix1 t)) s) t := by
  unfold logSoftmax largest logits
  pointwise [val_main_v71, val_main_v72, val_main_v73, val_main_v74, val_main_call2_cst, val_main_call2_v0, val_main_v75, val_main_v76, val_main_v77, val_main_v78, val_main_v79, val_main_call3_cst, val_main_call3_v0, val_main_call3_cst_0, val_main_call3_v1, val_main_call3_v2, val_main_call3_v3, val_main_call3_v4, val_main_call3_v5, val_main_call3_v6, val_main_call3_cst_1, val_main_call3_v7, val_main_call3_v8, val_main_call3_v9, val_main_call3_v10, val_main_v80]
  simp only [max_largest, wts, feat]

end Cert.ReferenceIdeal.Read
-- ==== Proof.Equal.lean ====
/- The kernel's result is the reference's, where the arrays that the precondition names are real. -/
module

public import proofs.«01_k».proof.Proof.KernelRead
public import proofs.«01_k».proof.Proof.RefRead

@[expose] public section

set_option maxRecDepth 16384

noncomputable section

namespace Cert.Equal

open Cert.Gcn Cert.KernelIdeal.Gen Cert.ReferenceIdeal.Gen
open Idealize.ShloMosaic

/-- Every entry is a real number. -/
def AllReal {s : Shape} (X : FVec Ideal s .f32) : Prop := ∀ i, ∃ r : ℝ, X i = (r : EReal)

section Kernel

open Cert.KernelIdeal Cert.KernelIdeal.Term

variable (X : Vec Ideal S10000x256 .f32) (B : Vec Ideal S10000 .i32) (W1 : Vec Ideal S256x256 .f32) (g1 b1 : Vec Ideal S256 .f32)
  (W2 : Vec Ideal S256x256 .f32) (g2 b2 : Vec Ideal S256 .f32) (Wf : Vec Ideal S256x256 .f32) (bf : Vec Ideal S256 .f32)
  (Wl : Vec Ideal S256x10 .f32) (bl : Vec Ideal S10 .f32)

/-- The numbers per feature, as a row, are those numbers. -/
theorem feat_row (g : Vec Ideal S256 .f32) : feat (shapeCast S1x256 g shapeCasts_S256_S1x256) = fun j => g (ix1 j) := by
  funext j
  pointwise [feat]

/-- The kernel's result: the logarithm of the softmax of two dense layers over the means of the groups' rows of the kernel's second
    layer. -/
theorem result_apply (s : Fin 64) (t : Fin 10) :
    result X B W1 g1 b1 W2 g2 b2 Wf bf Wl bl (ix2 s t)
      = logSoftmax (logits (groupMean (fun n => B (ix1 n))
          (kLayer (kLayer (inRows X) (wts W1) (fun j => g1 (ix1 j)) (fun j => b1 (ix1 j))) (wts W2) (fun j => g2 (ix1 j)) (fun j => b2 (ix1 j))))
          (wts Wf) (fun j => bf (ix1 j)) (fun x t => Wl (ix2 x t)) (fun t => bl (ix1 t)) s) t := by
  have e : ∀ Y : Vec Ideal S10x64 .f32, transpose S64x10 [1, 0] Y transposes_S10x64_S64x10_1_0 (ix2 s t) = Y (ix2 t s) := fun Y => by pointwise []
  have eW : ∀ x t, transpose S10x256 [1, 0] Wl transposes_S256x10_S10x256_1_0 (ix2 t x) = Wl (ix2 x t) := fun x t => by pointwise []
  have eb : ∀ t, shapeCast S1x10 bl shapeCasts_S10_S1x10 (ix2 0 t) = bl (ix1 t) := fun t => by pointwise []
  unfold result
  rw [e]
  unfold out
  rw [out_apply]
  simp only [pooled_apply, layer1_apply, eW, eb]
  rw [feat_row g1, feat_row b1, feat_row g2, feat_row b2, feat_row bf]

end Kernel

section Reference

open Cert.ReferenceIdeal Cert.ReferenceIdeal.Read

variable (X : Vec Ideal S10000x256 .f32) (B : Vec Ideal S10000 .i32) (W1 : Vec Ideal S256x256 .f32) (c1 g1 b1 : Vec Ideal S256 .f32)
  (W2 : Vec Ideal S256x256 .f32) (c2 g2 b2 : Vec Ideal S256 .f32) (Wf : Vec Ideal S256x256 .f32) (bf : Vec Ideal S256 .f32)
  (Wl : Vec Ideal S256x10 .f32) (bl : Vec Ideal S10 .f32)

/-- The reference's result: the logarithm of the softmax of two dense layers over the means of the groups' rows of its second layer. -/
theorem reference_apply (s : Fin 64) (t : Fin 10) :
    val_main_v80 X B W1 c1 g1 b1 W2 c2 g2 b2 Wf bf Wl bl (ix2 s t)
      = logSoftmax (logits (groupMean (fun n => B (ix1 n))
          (rLayer (rLayer (inRows X) (wts W1) (feat c1) (feat g1) (feat b1)) (wts W2) (feat c2) (feat g2) (feat b2)))
          (wts Wf) (feat bf) (fun x t => Wl (ix2 x t)) (fun t => bl (ix1 t)) s) t := by
  have e1 : inRows (val_main_v29 X W1 c1 g1 b1) = rLayer (inRows X) (wts W1) (feat c1) (feat g1) (feat b1) :=
    funext fun n => funext fun j => first_apply X W1 c1 g1 b1 n j
  have e2 : inRows (val_main_v59 X W1 c1 g1 b1 W2 c2 g2 b2)
      = rLayer (rLayer (inRows X) (wts W1) (feat c1) (feat g1) (feat b1)) (wts W2) (feat c2) (feat g2) (feat b2) :=
    funext fun n => funext fun j => by rw [← e1]; exact second_apply X W1 c1 g1 b1 W2 c2 g2 b2 n j
  rw [final_apply]
  simp only [mean_apply, e2]

end Reference

open Cert.KernelIdeal in
/-- The two results agree where the input, both layers' weights, biases and scales are real, and no shift of the first layer is plus
    infinity. -/
theorem result_eq (X : Vec Ideal S10000x256 .f32) (B : Vec Ideal S10000 .i32) (W1 : Vec Ideal S256x256 .f32) (c1 g1 b1 : Vec Ideal S256 .f32)
    (W2 : Vec Ideal S256x256 .f32) (c2 g2 b2 : Vec Ideal S256 .f32) (Wf : Vec Ideal S256x256 .f32) (bf : Vec Ideal S256 .f32)
    (Wl : Vec Ideal S256x10 .f32) (bl : Vec Ideal S10 .f32)
    (hX : AllReal X) (hW1 : AllReal W1) (hc1 : AllReal c1) (hg1 : AllReal g1) (hb1 : ∀ i, b1 i ≠ ⊤)
    (hW2 : AllReal W2) (hc2 : AllReal c2) (hg2 : AllReal g2) :
    Term.result X B W1 g1 b1 W2 g2 b2 Wf bf Wl bl
      = Cert.ReferenceIdeal.Read.val_main_v80 X B W1 c1 g1 b1 W2 c2 g2 b2 Wf bf Wl bl := by
  choose x hx using hX
  choose w1 hw1 using hW1
  choose d1 hd1 using hc1
  choose γ1 hγ1 using hg1
  choose w2 hw2 using hW2
  choose d2 hd2 using hc2
  choose γ2 hγ2 using hg2
  have l1 := layer_eq (A := fun n k => X (ix2 n k)) (W := fun k j => W1 (ix2 k j)) (c := fun j => c1 (ix1 j)) (g := fun j => g1 (ix1 j))
    (fun n k => hx _) (fun k j => hw1 _) (fun j => hd1 _) (fun j => hγ1 _) (fun j => b1 (ix1 j))
  obtain ⟨h, hh⟩ := layer_real (A := fun n k => X (ix2 n k)) (W := fun k j => W1 (ix2 k j)) (g := fun j => g1 (ix1 j)) (b := fun j => b1 (ix1 j))
    (fun n k => hx _) (fun k j => hw1 _) (fun j => hγ1 _) (fun j => hb1 _)
  have l2 := layer_eq (W := fun k j => W2 (ix2 k j)) (c := fun j => c2 (ix1 j)) (g := fun j => g2 (ix1 j))
    hh (fun k j => hw2 _) (fun j => hd2 _) (fun j => hγ2 _) (fun j => b2 (ix1 j))
  funext i
  rw [eq_ix2 i]
  generalize i 0 = s
  generalize i 1 = t
  refine (result_apply X B W1 g1 b1 W2 g2 b2 Wf bf Wl bl s t).trans (Eq.trans ?_ (reference_apply X B W1 c1 g1 b1 W2 c2 g2 b2 Wf bf Wl bl s t).symm)
  rw [l2, l1]

end Cert.Equal
-- ==== Proof.Pre.lean ====
/- What the precondition says: the entries of the arrays it names are real, or at least below plus infinity. -/
module

public import proofs.«01_k».proof.Pre_finite_inputs
public import Idealize.ShloMosaic.Lib.Pointwise
public import Idealize.ShloMosaic.Lib.IdealHost

@[expose] public section

set_option maxRecDepth 16384

noncomputable section

namespace Cert.Pre_finite_inputs

open Idealize.ShloMosaic

/-- The precondition's operations are well formed. -/
theorem wellFormed : Facts := ⟨by decide, by decide, by decide⟩

variable [Facts]
open Facts

/-- The pattern that every entry is compared with is plus infinity. -/
theorem bound_eq : Ideal.ofBits FTy.f32 0x7F800000#32 = ⊤ := by simp [Ideal.ofBits, Ideal.ieee]

/-- An extended real whose absolute value is below plus infinity is real. -/
theorem real_of_abs_lt (x : EReal) (h : max x (-x) < ⊤) : ∃ r : ℝ, x = r := by
  induction x using EReal.rec with
  | bot => simp at h
  | top => simp at h
  | coe r => exact ⟨r, rfl⟩

/-- Where the comparison with plus infinity is all ones, the entries are below it. -/
theorem lt_of_ones {s : Shape} (X : FVec Ideal s .f32) (b : S_.BroadcastsInDim s (![] : Fin 0 → Fin s.rank))
    (h : cmpf .olt X (broadcastInDim s ![] b (constant S_ .f32 0x7F800000#32)) = fun _ => 1#1) (i : s.Idx) : X i < (⊤ : EReal) := by
  have e := congrFun h i
  by_contra hn
  rw [← bound_eq] at hn
  have : (cmpf .olt X (broadcastInDim s ![] b (constant S_ .f32 0x7F800000#32)) : IVec s 1) i = 0#1 :=
    show BitVec.ofBool (decide (X i < Ideal.ofBits FTy.f32 0x7F800000#32)) = 0#1 by simp only [hn]; rfl
  rw [this] at e
  exact absurd e (by decide)

/-- Where the comparison of absolute values with plus infinity is all ones, the entries are real. -/
theorem real_of_ones {s : Shape} (X : FVec Ideal s .f32) (b : S_.BroadcastsInDim s (![] : Fin 0 → Fin s.rank))
    (h : cmpf .olt (Host.absf X) (broadcastInDim s ![] b (constant S_ .f32 0x7F800000#32)) = fun _ => 1#1) (i : s.Idx) :
    ∃ r : ℝ, X i = (r : EReal) := real_of_abs_lt _ (lt_of_ones (Host.absf X) b h i)

end Cert.Pre_finite_inputs
-- ==== Proof.lean ====
/- The proof of the certificate's claim: the three programs run and leave their arguments as they are, and the kernel's result is the
   reference's. -/
module

public import proofs.«01_k».proof.Defs
public import proofs.«01_k».proof.Proof.Gen.Kernel.Frame
public import proofs.«01_k».proof.Proof.Equal
public import proofs.«01_k».proof.Proof.Pre
public import Idealize.ShloMosaic.Lib.Quiescent

@[expose] public section

noncomputable section

namespace Cert.Proof

open Idealize.ShloMosaic Idealize.SL.Sem

/-- Every run of the reference leaves its arguments as they are, and it has no semaphore to leave raised. -/
theorem referenceFrame : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems rfl r.2⟩)
    (Cert.ReferenceIdeal.Value.run m ρ)

/-- Both programs end with the same result, at the arguments that the precondition admits. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.wellFormed) := by
  intro m g m' g' hpre hagree
  letI := Cert.Pre_finite_inputs.wellFormed
  refine ⟨_, (θ_run Cert.KernelIdeal.defs _ _).mono (fun _ h c => ⟨h.1 c, h.2 c⟩)
    (θ_run_and (Cert.KernelIdeal.Term.run m g) (Cert.KernelIdeal.Gen.unchanged m g)), ?_⟩
  refine (θ_run Cert.ReferenceIdeal.defs _ _).mono (fun _ h c => ⟨(h c).1.trans ?_, (h c).2⟩) (Cert.ReferenceIdeal.Value.run m' g')
  rw [Cert.ReferenceIdeal.Read.val_main_v80_eq]
  show Cert.ReferenceIdeal.Read.val_main_v80
    (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
  obtain ⟨a0, a1, a2, a3, a4, a5, a6, a7, a8, a9, a10, a11, a12, a13, a14⟩ := hagree c
  obtain ⟨p0, p3, p4, p5, p6, p7, p8, p9⟩ := hpre c
  rw [a0, a2, a3, a4, a5, a6, a7, a8, a9, a10, a11, a12, a13, a14]
  exact (Cert.Equal.result_eq _ _ _ _ _ _ _ _ _ _ _ _ _ _ (Cert.Pre_finite_inputs.real_of_ones _ _ p0) (Cert.Pre_finite_inputs.real_of_ones _ _ p3)
    (Cert.Pre_finite_inputs.real_of_ones _ _ p4) (Cert.Pre_finite_inputs.real_of_ones _ _ p5) (fun i => (Cert.Pre_finite_inputs.lt_of_ones _ _ p6 i).ne)
    (Cert.Pre_finite_inputs.real_of_ones _ _ p7) (Cert.Pre_finite_inputs.real_of_ones _ _ p8) (Cert.Pre_finite_inputs.real_of_ones _ _ p9)).symm

/-- The certificate's claim. -/
theorem claim : Cert.Claim := ⟨Cert.Kernel.Gen.facts, Cert.KernelIdeal.Gen.facts, Cert.ReferenceIdeal.Gen.facts, Cert.Pre_finite_inputs.wellFormed,
  fun m ρ _ => Cert.Kernel.Gen.frame m ρ, fun m ρ _ => Cert.KernelIdeal.Gen.frame m ρ, fun m ρ _ => Cert.KernelIdeal.Gen.frame m ρ,
  referenceFrame, fun m ρ _ => referenceFrame m ρ trivial, trivial, algebraic⟩

end Cert.Proof

end
